-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024x100000 : Shape := ⟨2, ![1024, 100000]⟩
abbrev S100000x128 : Shape := ⟨2, ![100000, 128]⟩
abbrev S100000x1 : Shape := ⟨2, ![100000, 1]⟩
abbrev S20x1x5000 : Shape := ⟨3, ![20, 1, 5000]⟩
abbrev S100000x1024 : Shape := ⟨2, ![100000, 1024]⟩
abbrev S5000x128 : Shape := ⟨2, ![5000, 128]⟩
abbrev S5000x1024 : Shape := ⟨2, ![5000, 1024]⟩
abbrev S1x1x5000 : Shape := ⟨3, ![1, 1, 5000]⟩
abbrev S1x5000 : Shape := ⟨2, ![1, 5000]⟩
abbrev S5000x1 : Shape := ⟨2, ![5000, 1]⟩

abbrev nBuf : Space → Nat
  | .hbm => 7
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1024x100000, .f32⟩
  | .hbm, ⟨2, _⟩ => ⟨S100000x128, .f32⟩
  | .hbm, ⟨3, _⟩ => ⟨S100000x1, .f32⟩
  | .hbm, ⟨4, _⟩ => ⟨S20x1x5000, .f32⟩
  | .hbm, ⟨5, _⟩ => ⟨S100000x1024, .f32⟩
  | .hbm, ⟨6, _⟩ => ⟨S1024x100000, .f32⟩
  | .local _ .vmem, ⟨0, _⟩ => ⟨S5000x128, .f32⟩
  | .local _ .vmem, ⟨1, _⟩ => ⟨S5000x128, .f32⟩
  | .local _ .vmem, ⟨2, _⟩ => ⟨S1024x128, .f32⟩
  | .local _ .vmem, ⟨3, _⟩ => ⟨S20x1x5000, .f32⟩
  | .local _ .vmem, ⟨4, _⟩ => ⟨S5000x1024, .f32⟩
  | .local _ .vmem, ⟨5, _⟩ => ⟨S5000x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def k0_off1 (i : grid0.Coords) : Fin 3 → Nat :=
  let arg0 : BitVec 32 := BitVec.ofNat 32 (i 0).val
  let v3 : Index := Scalar.indexCast arg0
  let c0_3 : Index := 0#32
  let c0_4 : Index := 0#32
  ![v3.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x1x5000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x128 : Shape := ⟨2, ![1024, 128]⟩
abbrev S1024x100000 : Shape := ⟨2, ![1024, 100000]⟩
abbrev S100000x128 : Shape := ⟨2, ![100000, 128]⟩
abbrev S100000x1 : Shape := ⟨2, ![100000, 1]⟩
abbrev S128x100000 : Shape := ⟨2, ![128, 100000]⟩
abbrev S100000 : Shape := ⟨1, ![100000]⟩
abbrev S1x100000 : Shape := ⟨2, ![1, 100000]⟩

abbrev nBuf : Space → Nat
  | .hbm => 10
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x100000, .f32⟩
  | .hbm, ⟨2, _⟩ => ⟨S100000x128, .f32⟩
  | .hbm, ⟨3, _⟩ => ⟨S100000x1, .f32⟩
  | .hbm, ⟨4, _⟩ => ⟨S128x100000, .f32⟩
  | .hbm, ⟨5, _⟩ => ⟨S1024x100000, .f32⟩
  | .hbm, ⟨6, _⟩ => ⟨S100000, .f32⟩
  | .hbm, ⟨7, _⟩ => ⟨S1x100000, .f32⟩
  | .hbm, ⟨8, _⟩ => ⟨S1024x100000, .f32⟩
  | .hbm, ⟨9, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.KernelValue.lean ====
/-
  What the tiled kernel computes, at the ideal instance.

  The grid has 20 points. Point `t` takes rows `5000 t … 5000 t + 4999` of the weights, all of the inputs and row `t`
  of the bias (reshaped to 20 rows of 5000), and writes rows `5000 t … 5000 t + 4999` of the TRANSPOSED logits. The
  20 blocks tile the array, so it ends at one function of the arguments, `logitsT`.
-/
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.LogitsT

open Cert.KernelIdeal Cert.KernelIdeal.Gen

variable (m : (ℓ : Loc nD τ sig) → Buf (Elt Ideal) ℓ) (ρ : Dev nD → PrngReg)

/-- The transposed logits: class `n`, sample `r`: the product of weight row `n` with input row `r`, plus the bias. -/
def logitsT (x : Vec Ideal S1024x128 .f32) (W : Vec Ideal S100000x128 .f32) (b : Vec Ideal S100000x1 .f32) :
    Vec Ideal S100000x1024 .f32 :=
  fun j => (∑ k : Fin 128, W (ix2 (j 0) k) * x (ix2 (j 1) k)) + b (ix2 (j 0) 0)

/-- One block's payload at row `r`, column `i`: the product of the rows, plus lane `r` of the loaded bias row. -/
theorem pay_apply (w : Vec Ideal S5000x128 .f32) (x : Vec Ideal S1024x128 .f32) (v : Vec Ideal S1x1x5000 .f32)
    (r : Fin 5000) (i : Fin 1024) :
    k0_pay1 (F := Ideal) w x v (ix2 r i) = (∑ k : Fin 128, w (ix2 r k) * x (ix2 i k)) + v (ix3 0 0 r) := by
  pointwise [k0_pay1]

/-- Which block each window is on at point `t`: weights and result at block `t`, inputs and bias whole. -/
theorem idx : ∀ t : Fin cfg0.N, win0_0.index t = ![t.val, 0] ∧ win0_1.index t = ![0, 0] ∧ win0_2.index t = ![0, 0, 0]
    ∧ win0_3.index t = ![t.val, 0] :=
  (by decide +kernel : ∀ t : Fin grid0.N, _)

/-- The bias row that the body loads at point `t` is row `t`. -/
theorem off : ∀ t : Fin cfg0.N, k0_off1 (grid0.coords t) = ![t.val, 0, 0] :=
  (by decide +kernel : ∀ t : Fin grid0.N, _)

/-- Row `r` of block `t` is row `5000 t + r` of the whole: within the 100000 rows. -/
def row (t : Fin cfg0.N) (r : Fin 5000) : Fin 100000 :=
  ⟨t.val * 5000 + r.val, by have h : t.val < 20 := t.isLt.trans_eq N_0; have := r.isLt; omega⟩

/-- The weights' block at point `t`. -/
theorem w_apply (c : Dev nD) (t : Fin cfg0.N) (r : Fin 5000) (k : Fin 128) :
    (iblk m c 0 t : Vec Ideal S5000x128 .f32) (ix2 r k) = m ((c : Thread nD τ).loc main_arg2) (ix2 (row t r) k) := by
  rw [← V_main_arg2 m c]
  blk_ext [iblk, idx t, row]

/-- The inputs' block is all of them. -/
theorem x_apply (c : Dev nD) (t : Fin cfg0.N) (i : Fin 1024) (k : Fin 128) :
    (iblk m c 1 t : Vec Ideal S1024x128 .f32) (ix2 i k) = m ((c : Thread nD τ).loc main_arg0) (ix2 i k) := by
  rw [← V_main_arg0 m c]
  blk_ext [iblk, idx t]

/-- The bias as the region finds it: reshaped to 20 rows of 5000. -/
theorem bias_entry (c : Dev nD) : V m c main_v0
    = shapeCast S20x1x5000 (m ((c : Thread nD τ).loc main_arg3)) shapeCasts_S100000x1_S20x1x5000 := by
  simp only [V, V0, hostOps0, List.flatten_cons, List.flatten_nil, List.append_nil]
  after_results
  rfl

/-- The bias row that point `t` loads. -/
theorem b_apply (c : Dev nD) (t : Fin cfg0.N) (r : Fin 5000)
    (h : ∀ a, k0_off1 (grid0.coords t) a + (![1, 1, 5000] : Fin 3 → ℕ) a ≤ S20x1x5000.size a) :
    View.ld (iblk m c 2 t : Vec Ideal S20x1x5000 .f32) (Rect.unit (s := S20x1x5000) (k0_off1 (grid0.coords t)) ![1, 1, 5000] h) (ix3 0 0 r)
      = m ((c : Thread nD τ).loc main_arg3) (ix2 (row t r) 0) := by
  have e : View.ld (iblk m c 2 t : Vec Ideal S20x1x5000 .f32) (Rect.unit (s := S20x1x5000) (k0_off1 (grid0.coords t)) ![1, 1, 5000] h) (ix3 0 0 r)
      = V m c main_v0 (ix3 ⟨t.val, t.isLt.trans_eq N_0⟩ 0 r) := by
    unfold View.ld
    blk_ext [iblk, idx t]
    · show k0_off1 (grid0.coords t) 0 + 1 * 0 = t.val
      rw [off t]; rfl
    · show k0_off1 (grid0.coords t) 2 + 1 * r.val = r.val
      rw [off t]; show 0 + 1 * r.val = r.val; omega
  rw [e, bias_entry]
  refine shapeCast_apply _ _ _ _ ?_
  refine (rowMajor_val2 (d := ![100000, 1]) _ 1 rfl).trans
    (Eq.trans ?_ (rowMajor_val3 (d := ![20, 1, 5000]) _ 5000 5000 rfl rfl).symm)
  show (t.val * 5000 + r.val) * 1 + 0 = t.val * 5000 + 0 * 5000 + r.val
  omega

/-- After the region, the region's result array is the transposed logits: every block is theirs, and they tile it. -/
theorem final (c : Dev nD) : (dats m 0 c).arrAt 3 cfg0.N
    = logitsT (m ((c : Thread nD τ).loc main_arg0)) (m ((c : Thread nD τ).loc main_arg2)) (m ((c : Thread nD τ).loc main_arg3)) := by
  refine (dats m 0 c).arrAt_eq_of_covers 3 _ (by decide +kernel) fun t hf y => ?_
  blk_simp
  rw [after0_3]
  unfold outsAt0
  frame_out
  obtain ⟨r, i, rfl⟩ : ∃ (r : Fin 5000) (i : Fin 1024), y = ix2 r i := ⟨y 0, y 1, eq_ix2 y⟩
  refine (pay_apply _ _ _ r i).trans ?_
  have e : (((View.whole main_v1).slice (win0_3.rect t)).emb (ix2 r i) : S100000x1024.Idx) = ix2 (row t r) i := by
    blk_ext [idx t, row]
  refine Eq.trans ?_ (congrArg _ e).symm
  rw [b_apply]
  simp only [w_apply, x_apply]
  rfl

/-- The line after the region transposes what the region left. -/
theorem result (c : Dev nD) : Pipeline.afterTail₀ cfgs (dats m) 0 (V0 m) [hostOps1] c main_v2
    = transpose S1024x100000 [1, 0]
        (logitsT (m ((c : Thread nD τ).loc main_arg0)) (m ((c : Thread nD τ).loc main_arg2)) (m ((c : Thread nD τ).loc main_arg3)))
        transposes_S100000x1024_S1024x100000_1_0 := by
  unfold Pipeline.afterTail₀
  simp only [hostOps1, List.flatten_cons, List.flatten_nil, List.append_nil]
  after_results
  exact congrArg (transpose S1024x100000 [1, 0] · transposes_S100000x1024_S1024x100000_1_0)
    ((Pipeline.withArrays_arr spec0 winFacts0.arr_inj c (V0 m c) (fun w => (dats m 0 c).arrAt w cfg0.N) 3).trans (final m c))

/-- The whole program's run: the result is the transpose of the transposed logits, the arguments unchanged. -/
theorem run : θ_run defs (onTc (τ := τ) (main (F := Ideal))) ⟨m, fun _ => 0, ρ⟩ fun r => ∀ c : Dev nD,
      r.2.mem ((c : Thread nD τ).loc main_v2) = transpose S1024x100000 [1, 0]
          (logitsT (m ((c : Thread nD τ).loc main_arg0)) (m ((c : Thread nD τ).loc main_arg2)) (m ((c : Thread nD τ).loc main_arg3)))
          transposes_S100000x1024_S1024x100000_1_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).2 main_v2 (Pipeline.mem_restRefs_of main_v2 (by decide) (by decide))).trans (result m c),
      h.2 c⟩) (θ_run_and (run_main m ρ) (unchanged m ρ))

end Cert.KernelIdeal.LogitsT

end
-- ==== Proof.Logits.lean ====
/-
  The plain product is the transpose of what the kernel writes: one equation between two functions of the arguments.
-/
module

public import proofs.«01_k».proof.Proof.KernelValue
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Logits

open Cert.ReferenceIdeal Cert.ReferenceIdeal.Gen

/-- The reference's result: input times transposed weights, plus the squeezed bias along the classes. -/
def logits (x : FVec Ideal S1024x128 .f32) (W : FVec Ideal S100000x128 .f32) (b : FVec Ideal S100000x1 .f32) :
    FVec Ideal S1024x100000 .f32 :=
  addf (Host.dotGeneral dot_S1024x128_S128x100000_S1024x100000_1_0_0_1_n_n none x
      (transpose S128x100000 [1, 0] W transposes_S100000x128_S128x100000_1_0))
    (broadcastInDim S1024x100000 ![0, 1] bcast_S1x100000_S1024x100000_0_1
      (broadcastInDim S1x100000 ![1] bcast_S100000_S1x100000_1 (shapeCast S100000 b shapeCasts_S100000x1_S100000)))

/-- The squeezed bias at class `n`. -/
theorem squeeze_apply (b : Vec Ideal S100000x1 .f32) (n : Fin 100000) :
    shapeCast S100000 b shapeCasts_S100000x1_S100000 (ix1 n) = b (ix2 n 0) := by
  refine shapeCast_apply _ _ _ _ ?_
  refine (rowMajor_val2 (d := ![100000, 1]) _ 1 rfl).trans (Eq.trans ?_ (rowMajor_val1 (d := ![100000]) _).symm)
  show n.val * 1 + 0 = n.val
  omega

/-- The reference at sample `i`, class `n`. -/
theorem logits_apply (x : Vec Ideal S1024x128 .f32) (W : Vec Ideal S100000x128 .f32) (b : Vec Ideal S100000x1 .f32)
    (i : Fin 1024) (n : Fin 100000) :
    logits x W b (ix2 i n) = (∑ k : Fin 128, x (ix2 i k) * W (ix2 n k)) + b (ix2 n 0) := by
  rw [← squeeze_apply b n]
  generalize hB : (shapeCast S100000 b shapeCasts_S100000x1_S100000 : Vec Ideal S100000 .f32) = B
  pointwise [logits, hB]

end Cert.ReferenceIdeal.Logits

namespace Cert.KernelIdeal.LogitsT

open Cert.KernelIdeal Cert.KernelIdeal.Gen

/-- The kernel's blocks, transposed, are the reference's result: the products commute, the sums are the same. -/
theorem transpose_logitsT (x : Vec Ideal S1024x128 .f32) (W : Vec Ideal S100000x128 .f32) (b : Vec Ideal S100000x1 .f32) :
    transpose S1024x100000 [1, 0] (logitsT x W b) transposes_S100000x1024_S1024x100000_1_0
      = Cert.ReferenceIdeal.Logits.logits x W b := by
  funext j
  obtain ⟨i, n, rfl⟩ : ∃ (i : Fin 1024) (n : Fin 100000), j = ix2 i n := ⟨j 0, j 1, eq_ix2 j⟩
  refine Eq.trans ?_ (Cert.ReferenceIdeal.Logits.logits_apply x W b i n).symm
  pointwise [logitsT]
  exact congrArg (· + _) (Finset.sum_congr rfl fun k _ => mul_comm _ _)

end Cert.KernelIdeal.LogitsT

namespace Cert.Proof

/-- From equal arguments the kernel and the reference end with the same logits over the extended reals. -/
theorem algebraic : Cert.algebraic_KernelIdeal_ReferenceIdeal := by
  pair_intro
  · run_from Cert.KernelIdeal.LogitsT.run m g
  · run_from Cert.ReferenceIdeal.Value.run m' g'
    exact (Cert.KernelIdeal.LogitsT.transpose_logitsT _ _ _).symm

end Cert.Proof

end
-- ==== Proof.lean ====
/-
  The certificate of the tiled classifier kernel: it assembles what the modules under Proof/ prove.
  `Proof/KernelValue.lean` says what the kernel computes, `Proof/Logits.lean` what the reference computes and that the
  two are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Logits
public import Idealize.ShloMosaic.Adequacy
public import Idealize.ShloMosaic.Init

@[expose] public section

noncomputable section

namespace Cert.Proof

open Idealize.ShloMosaic Idealize.SL.Sem Cert.Kernel

/-- The reference's frame: its run, read at the arguments; it declares no semaphore, so every counter is zero. -/
theorem reference_quiescent : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The five claims: the two frames of the kernel and its idealization are generated, the reference's is its run, the
    idealization rewrites nothing, and the values agree (`algebraic`). -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent, trivial,
  algebraic⟩

end Cert.Proof

end
